-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200 : Shape := ⟨2, ![16384, 200]⟩
abbrev S16384x201 : Shape := ⟨2, ![16384, 201]⟩
abbrev S16384 : Shape := ⟨1, ![16384]⟩
abbrev S512x200 : Shape := ⟨2, ![512, 200]⟩
abbrev S512x201 : Shape := ⟨2, ![512, 201]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x200, .f32⟩
  | .hbm, ⟨1, _⟩ => ⟨S16384x201, .f32⟩
  | .hbm, ⟨2, _⟩ => ⟨S16384, .i32⟩
  | .local _ .vmem, ⟨0, _⟩ => ⟨S512x200, .f32⟩
  | .local _ .vmem, ⟨1, _⟩ => ⟨S512x200, .f32⟩
  | .local _ .vmem, ⟨2, _⟩ => ⟨S512x201, .f32⟩
  | .local _ .vmem, ⟨3, _⟩ => ⟨S512x201, .f32⟩
  | .local _ .vmem, ⟨4, _⟩ => ⟨S512, .i32⟩
  | .local _ .vmem, ⟨5, _⟩ => ⟨S512, .i32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x201 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x200 : Shape := ⟨2, ![16384, 200]⟩
abbrev S_ : Shape := ⟨0, ![]⟩
abbrev S16384 : Shape := ⟨1, ![16384]⟩
abbrev S16384x1 : Shape := ⟨2, ![16384, 1]⟩
abbrev S16384x201 : Shape := ⟨2, ![16384, 201]⟩
abbrev S201 : Shape := ⟨1, ![201]⟩
abbrev S1x201 : Shape := ⟨2, ![1, 201]⟩

abbrev nBuf : Space → Nat
  | .hbm => 37
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S_, .f32⟩
  | .hbm, ⟨2, _⟩ => ⟨S16384x200, .f32⟩
  | .hbm, ⟨3, _⟩ => ⟨S16384x200, .i1⟩
  | .hbm, ⟨4, _⟩ => ⟨S16384x200, .i1⟩
  | .hbm, ⟨5, _⟩ => ⟨S16384x200, .i32⟩
  | .hbm, ⟨6, _⟩ => ⟨S_, .i1⟩
  | .hbm, ⟨7, _⟩ => ⟨S_, .i32⟩
  | .hbm, ⟨8, _⟩ => ⟨S16384, .i1⟩
  | .hbm, ⟨9, _⟩ => ⟨S16384, .i32⟩
  | .hbm, ⟨10, _⟩ => ⟨S_, .i1⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .f32⟩
  | .hbm, ⟨20, _⟩ => ⟨S16384x1, .f32⟩
  | .hbm, ⟨21, _⟩ => ⟨S16384x201, .f32⟩
  | .hbm, ⟨22, _⟩ => ⟨S201, .i32⟩
  | .hbm, ⟨23, _⟩ => ⟨S1x201, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x201, .i32⟩
  | .hbm, ⟨29, _⟩ => ⟨S16384x201, .i32⟩
  | .hbm, ⟨30, _⟩ => ⟨S16384x201, .i1⟩
  | .hbm, ⟨31, _⟩ => ⟨S_, .f32⟩
  | .hbm, ⟨32, _⟩ => ⟨S16384x201, .f32⟩
  | .hbm, ⟨33, _⟩ => ⟨S16384x201, .f32⟩
  | .hbm, ⟨34, _⟩ => ⟨S_, .i32⟩
  | .hbm, ⟨35, _⟩ => ⟨S16384, .i32⟩
  | .hbm, ⟨36, _⟩ => ⟨S16384, .i32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_c : Ref sig .tc := ⟨.hbm, 6, rfl⟩
abbrev main_call0_c_0 : Ref sig .tc := ⟨.hbm, 7, rfl⟩
abbrev main_call0_v1_0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call2_v0 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Proof.Length.lean ====
/- What the length of a row is, stated of a property of places: one more than the last place that has it, zero where none
   has. A word that says so is the only one, and a signed maximum over the places' own words finds it. -/
module

public import Idealize.ShloMosaic.PureOps
public import Idealize.ShloMosaic.PureOps.Reduce

@[expose] public section

namespace Cert.Proof

open Idealize.ShloMosaic

/-- The word `l` is the length of a row of `n` places, of which those with `P` are occupied. -/
def IsLen (n : ℕ) (P : ℕ → Prop) (l : BitVec 32) : Prop :=
  (∀ k < n, P k → k + 1 ≤ l.toNat) ∧ (l.toNat = 0 ∨ ∃ k < n, P k ∧ k + 1 = l.toNat)

/-- A row has one length. -/
theorem IsLen.unique {n : ℕ} {P : ℕ → Prop} {l l' : BitVec 32} (h : IsLen n P l) (h' : IsLen n P l') : l = l' := by
  apply BitVec.eq_of_toNat_eq
  obtain ⟨a, b⟩ := h
  obtain ⟨a', b'⟩ := h'
  have e : l.toNat ≤ l'.toNat := by
    rcases b with b | ⟨k, hk, hp, b⟩
    · omega
    · have := a' k hk hp; omega
  have e' : l'.toNat ≤ l.toNat := by
    rcases b' with b' | ⟨k, hk, hp, b'⟩
    · omega
    · have := a k hk hp; omega
  omega

/-- The length is at most the number of places. -/
theorem IsLen.le {n : ℕ} {P : ℕ → Prop} {l : BitVec 32} (h : IsLen n P l) : l.toNat ≤ n := by
  rcases h.2 with b | ⟨k, hk, _, b⟩ <;> omega

/-- Past the length no place is occupied. -/
theorem IsLen.not_of_le {n : ℕ} {P : ℕ → Prop} {l : BitVec 32} (h : IsLen n P l) {k : ℕ} (hk : k < n)
    (hl : l.toNat ≤ k) : ¬ P k := fun hp => by
  have := h.1 k hk hp; omega

/-- Equivalent occupations have the same lengths. -/
theorem IsLen.congr {n : ℕ} {P Q : ℕ → Prop} {l : BitVec 32} (h : IsLen n P l) (e : ∀ k < n, P k ↔ Q k) : IsLen n Q l :=
  ⟨fun k hk hq => h.1 k hk ((e k hk).2 hq), h.2.imp_right fun ⟨k, hk, hp, hl⟩ => ⟨k, hk, (e k hk).1 hp, hl⟩⟩

/-- The signed maximum is the greater word's, read as integers. -/
theorem toInt_maxsi (x y : BitVec 32) : (IntOp.maxsi x y).toInt = max x.toInt y.toInt := by
  unfold IntOp.maxsi
  by_cases h : y.toInt < x.toInt
  · rw [if_pos (BitVec.slt_iff_toInt_lt.2 h)]; omega
  · rw [if_neg (fun c => h (BitVec.slt_iff_toInt_lt.1 c))]; omega

/-- A fold by the signed maximum is the initial word or one of the words folded, and at least as great as each. -/
theorem fold_maxsi {ι : Type} (S : Finset ι) (b : BitVec 32) (f : ι → BitVec 32) :
    ((S.fold IntOp.maxsi b f).toInt = b.toInt ∨ ∃ i ∈ S, (S.fold IntOp.maxsi b f).toInt = (f i).toInt)
      ∧ b.toInt ≤ (S.fold IntOp.maxsi b f).toInt ∧ ∀ i ∈ S, (f i).toInt ≤ (S.fold IntOp.maxsi b f).toInt := by
  induction S using Finset.cons_induction with
  | empty => simp
  | cons a S ha ih =>
    obtain ⟨h1, h2, h3⟩ := ih
    rw [Finset.fold_cons, toInt_maxsi]
    refine ⟨?_, by omega, ?_⟩
    · rcases max_choice (f a).toInt (S.fold IntOp.maxsi b f).toInt with h | h
      · exact .inr ⟨a, by simp, h⟩
      · rw [h]
        exact h1.imp_right fun ⟨i, hi, e⟩ => ⟨i, by simp [hi], e⟩
    · intro i hi
      rcases Finset.mem_cons.1 hi with rfl | hi
      · omega
      · have := h3 i hi; omega

/-- A small number read as a signed word is itself. -/
theorem toInt_ofNat_small {k : ℕ} (hk : k < 1000) : (BitVec.ofNat 32 k).toInt = k := by
  rw [BitVec.toInt_eq_toNat_of_lt] <;> rw [BitVec.toNat_ofNat, Nat.mod_eq_of_lt (by omega)] <;> omega

/-- A word that reads as a nonnegative integer has that number of its own. -/
theorem toNat_of_toInt {w : BitVec 32} {k : ℕ} (h : w.toInt = k) : w.toNat = k := by
  have := w.isLt
  rw [BitVec.toInt_eq_toNat_cond] at h
  split at h <;> omega

/-- The signed maximum, from the least word, over the places of one row — each occupied place one more than its number, every
    other zero — is the row's length. -/
theorem isLen_fold {ι : Type} (S : Finset ι) (n : ℕ) (hn : 0 < n) (hn' : n < 999) (P : ℕ → Prop) (pos : ι → ℕ) (f : ι → BitVec 32)
    (hpos : ∀ i ∈ S, pos i < n) (hall : ∀ k < n, ∃ i ∈ S, pos i = k)
    (ht : ∀ i ∈ S, P (pos i) → f i = BitVec.ofNat 32 (pos i + 1)) (hf : ∀ i ∈ S, ¬ P (pos i) → f i = 0#32) :
    IsLen n P (S.fold IntOp.maxsi 2147483648#32 f) := by
  obtain ⟨h1, -, h3⟩ := fold_maxsi S 2147483648#32 f
  have hz : (0#32).toInt = 0 := by decide
  have hb : (2147483648#32).toInt < 0 := by decide
  have hval : ∀ i ∈ S, (P (pos i) ∧ (f i).toInt = (pos i + 1 : ℕ)) ∨ (¬ P (pos i) ∧ (f i).toInt = 0) := by
    intro i hi
    have := hpos i hi
    by_cases hp : P (pos i)
    · exact .inl ⟨hp, by rw [ht i hi hp, toInt_ofNat_small (by omega)]⟩
    · exact .inr ⟨hp, by rw [hf i hi hp, hz]⟩
  have hnn : 0 ≤ (S.fold IntOp.maxsi 2147483648#32 f).toInt := by
    obtain ⟨i, hi, -⟩ := hall 0 hn
    have := h3 i hi
    rcases hval i hi with ⟨-, e⟩ | ⟨-, e⟩ <;> omega
  rcases h1 with h1 | ⟨i, hi, h1⟩
  · omega
  have hl : (S.fold IntOp.maxsi 2147483648#32 f).toInt = ((S.fold IntOp.maxsi 2147483648#32 f).toNat : ℤ) := by
    obtain ⟨k, hk⟩ := Int.eq_ofNat_of_zero_le hnn
    rw [toNat_of_toInt hk]; exact hk
  refine ⟨fun k hk hp => ?_, ?_⟩
  · obtain ⟨i', hi', rfl⟩ := hall k hk
    have := h3 i' hi'
    rcases hval i' hi' with ⟨-, e⟩ | ⟨hq, -⟩
    · omega
    · exact absurd hp hq
  · rcases hval i hi with ⟨hp, e⟩ | ⟨-, e⟩
    · exact .inr ⟨pos i, hpos i hi, hp, by omega⟩
    · exact .inl (by omega)

end Cert.Proof
-- ==== Proof.KernelBlock.lean ====
/- What the kernel's body leaves in its two blocks, on extended reals: the block of the argument with a column of zeros behind it,
   and per row of the block its length and one. -/
module

public import proofs.«01_k».proof.Proof.Gen.KernelIdeal.Value
public import proofs.«01_k».proof.Proof.Length
public import Idealize.ShloMosaic.PureOps.Ideal.Laws
public import Idealize.ShloMosaic.Lib.Pipeline.Value
public import Idealize.ShloMosaic.Lib.WritesUnit
public import Idealize.ShloMosaic.Lib.ValueIdx

@[expose] public section

noncomputable section

open Idealize.ShloMosaic Idealize.ShloMosaic.TcCoe Idealize.SL.Sem

namespace Cert.Proof.Krn

open Cert.KernelIdeal Cert.KernelIdeal.Gen

/-! ## Indices of a block -/

/-- The index of row `r`, column `k` of a block of the argument, and a row as an index. -/
def bat2 (r : Fin 512) (k : Fin 200) : S512x200.Idx := ValueIdx.ix2 r k
def bat1 (r : Fin 512) : S512.Idx := ValueIdx.ix1 r

/-- The row and the column of an index. -/
def brow (i : S512x200.Idx) : Fin 512 := i 0
def bcol (i : S512x200.Idx) : Fin 200 := i 1
def wrow (i : S512x201.Idx) : Fin 512 := i 0
def wcol (i : S512x201.Idx) : Fin 201 := i 1

theorem bat2_brow (i : S512x200.Idx) : bat2 (brow i) (bcol i) = i := Shape.idx_ext₂ rfl rfl

/-- Place `k` of row `r` of the block is not zero. -/
def BOcc (x : Vec Ideal S512x200 .f32) (r : Fin 512) (k : ℕ) : Prop := ∃ h : k < 200, x (bat2 r ⟨k, h⟩) ≠ (0 : EReal)

/-- An index is in row `r` when its first coordinate is `r`. -/
theorem drop_eq_iff (i : S512x200.Idx) (r : Fin 512) : reduces_S512x200_S512.drop i = bat1 r ↔ brow i = r := by
  have e : (reduces_S512x200_S512.drop i 0 : ℕ) = (brow i : ℕ) := Shape.Reduces.drop_apply_val_of_eq _ i 0 0
  constructor
  · intro h; rw [h] at e; exact Fin.ext e.symm
  · rintro rfl
    funext a
    obtain rfl : a = 0 := Subsingleton.elim (α := Fin 1) _ _
    exact Fin.ext e

/-! ## The row lengths -/

/-- The places the body takes the maximum of: one more than the column where the element is not zero, zero elsewhere. -/
def places (x : Vec Ideal S512x200 .f32) : IVec S512x200 32 :=
  select (cmpf (F := Ideal) .one x (broadcast S512x200 (Scalar.ofBits .f32 0x00000000#32)))
    (addi (iota .tc S512x200 32 [1] iota_S512x200_d1_w32) (broadcast S512x200 1#32)) (broadcast S512x200 0#32)

theorem places_apply (x : Vec Ideal S512x200 .f32) (i : S512x200.Idx) :
    places x i = if x i ≠ (0 : EReal) then BitVec.ofNat 32 ((bcol i).val + 1) else 0#32 := by
  have hc : cmpf (F := Ideal) .one x (broadcast S512x200 (Scalar.ofBits .f32 0x00000000#32)) i
      = BitVec.ofBool (decide (x i ≠ (0 : EReal))) := by
    show Idealize.ShloMosaic.Ideal.cmp .one (x i) (Idealize.ShloMosaic.Ideal.ofBits .f32 0x00000000#32) = _
    rw [Idealize.ShloMosaic.Ideal.ofBits_zero_f32]
    rfl
  have ha : addi (iota .tc S512x200 32 [1] iota_S512x200_d1_w32) (broadcast S512x200 1#32) i
      = BitVec.ofNat 32 ((bcol i).val + 1) := by
    show iota .tc S512x200 32 [1] iota_S512x200_d1_w32 i + 1#32 = _
    rw [iota_single_apply, BitVec.ofNat_add]
    rfl
  unfold places
  rw [ValueIdx.select_apply, hc, ha]
  by_cases h : x i = (0 : EReal)
  · rw [if_neg (not_not.2 h), decide_eq_false (not_not.2 h)]; rfl
  · rw [if_pos h, decide_eq_true h]; rfl

theorem least_eq : 2147483648#32 = IKind.maxsi.neutral := rfl

/-- The maximum over a row's places is the row's length. -/
theorem isLen_places (x : Vec Ideal S512x200 .f32) (r : Fin 512) :
    IsLen 200 (BOcc x r)
      (multiReductionI .maxsi [1] S512 (places x) 2147483648#32 reduces_S512x200_S512 least_eq (bat1 r)) := by
  rw [multiReductionI_eq_fold]
  have hrow : ∀ i ∈ Finset.univ.filter fun i => reduces_S512x200_S512.drop i = bat1 r, brow i = r :=
    fun i hi => (drop_eq_iff i r).1 (Finset.mem_filter.1 hi).2
  have hocc : ∀ i, brow i = r → (BOcc x r (bcol i).val ↔ x i ≠ (0 : EReal)) := by
    rintro i rfl
    unfold BOcc
    have e : bat2 (brow i) ⟨(bcol i).val, (bcol i).isLt⟩ = i := bat2_brow i
    constructor
    · rintro ⟨_, h⟩; rwa [e] at h
    · intro h; exact ⟨(bcol i).isLt, by rwa [e]⟩
  refine isLen_fold _ 200 (by omega) (by omega) (BOcc x r) (fun i => (bcol i).val) (places x) (fun i _ => (bcol i).isLt)
    (fun k hk => ⟨bat2 r ⟨k, hk⟩, Finset.mem_filter.2 ⟨Finset.mem_univ _, (drop_eq_iff _ r).2 rfl⟩, rfl⟩)
    (fun i hi hp => ?_) (fun i hi hp => ?_)
  · rw [places_apply, if_pos ((hocc i (hrow i hi)).1 hp)]
  · rw [places_apply, if_neg (mt (hocc i (hrow i hi)).2 hp)]

/-- The row lengths' payload: the length of each row and one. -/
theorem lenPay_apply (x : Vec Ideal S512x200 .f32) (r : Fin 512) :
    ∃ l : BitVec 32, IsLen 200 (BOcc x r) l ∧ k0_pay2 (F := Ideal) x (bat1 r) = l + 1#32 :=
  ⟨_, isLen_places x r, rfl⟩

/-! ## The blocks -/

theorem hz1 : (![0] : Fin 1 → ℕ) = fun _ => 0 := funext fun a => by fin_cases a; rfl
theorem hz2 : (![0, 0] : Fin 2 → ℕ) = fun _ => 0 := funext fun a => by fin_cases a <;> rfl

/-- A block of the argument with a column of zeros behind it. -/
def widen (x : Vec Ideal S512x200 .f32) : Vec Ideal S512x201 .f32 := fun i =>
  if h : (wcol i).val < 200 then x (bat2 (wrow i) ⟨(wcol i).val, h⟩) else (0 : EReal)

/-- The column of zeros, as the store at column 200 places it. -/
theorem zeros_eq (x : Vec Ideal S512x200 .f32) (z : S512x1.Idx) :
    k0_pay1 (F := Ideal) z = widen x ((Rect.unit (s := S512x201) ![0, 200] S512x1.size inb_S512x201_S512x1_0_200).emb z) := by
  have hcol : ¬ (wcol ((Rect.unit (s := S512x201) ![0, 200] S512x1.size inb_S512x201_S512x1_0_200).emb z)).val < 200 := by
    show ¬ (200 + 1 * (z 1 : ℕ)) < 200
    omega
  unfold widen
  rw [dif_neg hcol]
  exact Idealize.ShloMosaic.Ideal.ofBits_zero_f32

/-- The copied block, as the store at column 0 places it. -/
theorem copy_eq (x : Vec Ideal S512x200 .f32) (z : S512x200.Idx) :
    x z = widen x ((Rect.unit (s := S512x201) ![0, 0] S512x200.size inb_S512x201_S512x200_0_0).emb z) := by
  have ecol : (wcol ((Rect.unit (s := S512x201) ![0, 0] S512x200.size inb_S512x201_S512x200_0_0).emb z)).val = (bcol z).val := by
    show 0 + 1 * (z 1 : ℕ) = (z 1 : ℕ)
    omega
  have erow : wrow ((Rect.unit (s := S512x201) ![0, 0] S512x200.size inb_S512x201_S512x200_0_0).emb z) = brow z := by
    refine Fin.ext ?_
    show 0 + 1 * (z 0 : ℕ) = (z 0 : ℕ)
    omega
  unfold widen
  rw [dif_pos (ecol.trans_lt (bcol z).isLt), erow]
  refine congrArg x ((bat2_brow z).symm.trans (congrArg (bat2 (brow z)) (Fin.ext ecol.symm)))

variable (c : Dev nD) (i : grid0.Coords) (arg1 : Memref sig .tc .vmem S512x200 .f32) (harg1 : arg1.IsWhole)
  (arg2 : Memref sig .tc .vmem S512x201 .f32) (harg2 : arg2.IsWhole) (arg3 : Memref sig .tc .vmem S512 .i32)
  (harg3 : arg3.IsWhole) (x : Vec Ideal S512x200 .f32)

/-- What the body loads is the block. -/
theorem load_eq : arg1.view.readAt (Elt Ideal) (Rect.unit (s := S512x200) ![0, 0] S512x200.size inb_S512x200_S512x200_0_0).toLoadRect
    (harg1.unread x) = x := by
  funext y
  rw [View.readAt_apply, harg1.read_unread]
  exact congrFun (View.ld_unit_zero hz2 inb_S512x200_S512x200_0_0 x) y

/-- The length block after the body. -/
theorem out2_eq : out0_A_2 c i arg1 harg1 arg2 harg2 arg3 harg3 x = k0_pay2 (F := Ideal) x := by
  unfold out0_A_2
  rw [View.read_writes_junk_eq_canon]
  refine (View.canon_unit_zero (Val := Elt Ideal) (S := S512) (e := .i32) hz1 inb_S512_S512_0
    (k0_pay2 (F := Ideal) (arg1.view.readAt (Elt Ideal) (Rect.unit (s := S512x200) ![0, 0] S512x200.size inb_S512x200_S512x200_0_0).toLoadRect
      (harg1.unread x)))).trans ?_
  rw [load_eq]

/-- The wide block after the body. -/
theorem out1_eq : out0_A_1 c i arg1 harg1 arg2 harg2 arg3 harg3 x = widen x := by
  unfold out0_A_1
  rw [View.read_writes_junk_eq_canon]
  funext y
  refine View.canon_apply_of_pieces (widen x)
    [⟨Rect.unit (s := S512x201) ![0, 200] S512x1.size inb_S512x201_S512x1_0_200, k0_pay1 (F := Ideal)⟩,
      ⟨Rect.unit (s := S512x201) ![0, 0] S512x200.size inb_S512x201_S512x200_0_0,
        arg1.view.readAt (Elt Ideal) (Rect.unit (s := S512x200) ![0, 0] S512x200.size inb_S512x200_S512x200_0_0).toLoadRect
          (harg1.unread x)⟩] ?_ y (cover0_A_1 c i arg1 harg1 arg2 harg2 arg3 harg3 x y)
  intro p hp z
  rcases List.mem_cons.1 hp with rfl | hp
  · exact zeros_eq x z
  · rw [List.mem_singleton] at hp
    subst hp
    refine (congrFun (load_eq arg1 harg1 x) z).trans (copy_eq x z)

end Cert.Proof.Krn

end
-- ==== Proof.KernelArrays.lean ====
/- What the kernel leaves in its two result arrays, on extended reals, as functions of the argument array. -/
module

public import proofs.«01_k».proof.Proof.KernelBlock

@[expose] public section

noncomputable section

open Idealize.ShloMosaic Idealize.ShloMosaic.TcCoe Idealize.SL.Sem

namespace Cert.Proof.Krn

open Cert.KernelIdeal Cert.KernelIdeal.Gen

/-! ## Indices of the arrays -/

def aat2 (r : Fin 16384) (k : Fin 200) : S16384x200.Idx := ValueIdx.ix2 r k
def aat1 (r : Fin 16384) : S16384.Idx := ValueIdx.ix1 r
def arow (i : S16384x201.Idx) : Fin 16384 := i 0
def acol (i : S16384x201.Idx) : Fin 201 := i 1
def lrow (j : S16384.Idx) : Fin 16384 := j 0

/-- Place `k` of row `r` of the argument is not zero. -/
def AOcc (x : Vec Ideal S16384x200 .f32) (r : Fin 16384) (k : ℕ) : Prop :=
  ∃ h : k < 200, x (aat2 r ⟨k, h⟩) ≠ (0 : EReal)

/-- The argument with a column of zeros behind it. -/
def awiden (x : Vec Ideal S16384x200 .f32) : Vec Ideal S16384x201 .f32 := fun i =>
  if h : (acol i).val < 200 then x (aat2 (arow i) ⟨(acol i).val, h⟩) else (0 : EReal)

/-- Row `r` of block `t` is this row of the array. -/
def rowAt (t : Fin cfg0.N) (r : Fin 512) : Fin 16384 :=
  ⟨t.val * 512 + r.val, by have h : t.val < 32 := t.isLt.trans_eq N_0; have := r.isLt; omega⟩

/-! ## The blocks' places in the arrays -/

theorem idx0 : ∀ t : Fin cfg0.N, win0_0.index t 0 * win0_0.size 0 = t.val * 512 ∧ win0_0.index t 1 * win0_0.size 1 = 0 := by
  decide +kernel
theorem idx1 : ∀ t : Fin cfg0.N, win0_1.index t 0 * win0_1.size 0 = t.val * 512 ∧ win0_1.index t 1 * win0_1.size 1 = 0 := by
  decide +kernel
theorem idx2 : ∀ t : Fin cfg0.N, win0_2.index t 0 * win0_2.size 0 = t.val * 512 := by
  decide +kernel

/-- The argument's block, read at a row and a column. -/
theorem emb0 (t : Fin cfg0.N) (r : Fin 512) (k : Fin 200) :
    ((cfg0.win 0).blk t).view.emb (bat2 r k) = aat2 (rowAt t r) k := by
  refine Shape.idx_ext₂ ?_ ?_
  · show win0_0.index t 0 * win0_0.size 0 + 1 * r.val = t.val * 512 + r.val
    rw [(idx0 t).1]; omega
  · show win0_0.index t 1 * win0_0.size 1 + 1 * k.val = k.val
    rw [(idx0 t).2]; omega

theorem emb1_row (t : Fin cfg0.N) (y : S512x201.Idx) :
    arow (((cfg0.win 1).blk t).view.emb y) = rowAt t (wrow y) := by
  refine Fin.ext ?_
  show win0_1.index t 0 * win0_1.size 0 + 1 * (y 0 : ℕ) = t.val * 512 + (y 0 : ℕ)
  rw [(idx1 t).1]; omega

theorem emb1_col (t : Fin cfg0.N) (y : S512x201.Idx) :
    acol (((cfg0.win 1).blk t).view.emb y) = wcol y := by
  refine Fin.ext ?_
  show win0_1.index t 1 * win0_1.size 1 + 1 * (y 1 : ℕ) = (y 1 : ℕ)
  rw [(idx1 t).2]; omega

theorem emb2 (t : Fin cfg0.N) (r : Fin 512) :
    ((cfg0.win 2).blk t).view.emb (bat1 r) = aat1 (rowAt t r) := by
  funext a
  obtain rfl : a = 0 := Subsingleton.elim (α := Fin 1) _ _
  refine Fin.ext ?_
  show win0_2.index t 0 * win0_2.size 0 + 1 * r.val = t.val * 512 + r.val
  rw [idx2 t]; omega

/-- Every row of the array is a row of some block. -/
theorem rowAt_surj (r : Fin 16384) : ∃ t q, rowAt t q = r := by
  have h := r.isLt
  refine ⟨⟨r.val / 512, ?_⟩, ⟨r.val % 512, by omega⟩, Fin.ext ?_⟩
  · rw [show cfg0.N = 32 from N_0]; omega
  · show r.val / 512 * 512 + r.val % 512 = r.val
    omega

/-! ## The arrays -/

variable (m : (ℓ : Loc nD τ sig) → Buf (Elt Ideal) ℓ) (c : Dev nD)

/-- The argument array of device `c`. -/
def arg : Vec Ideal S16384x200 .f32 := m ((c.tc : Thread nD τ).loc main_arg0)

/-- The block the body reads at point `t`. -/
theorem iblk_apply (t : Fin cfg0.N) (r : Fin 512) (k : Fin 200) :
    (iblk m c 0 t : Vec Ideal S512x200 .f32) (bat2 r k) = arg m c (aat2 (rowAt t r) k) := by
  show V m c main_arg0 (((cfg0.win 0).blk t).view.emb (bat2 r k)) = _
  rw [V_main_arg0, emb0]
  rfl

theorem bocc_iff (t : Fin cfg0.N) (r : Fin 512) (k : ℕ) : BOcc (iblk m c 0 t) r k ↔ AOcc (arg m c) (rowAt t r) k := by
  unfold BOcc AOcc
  constructor
  · rintro ⟨h, e⟩; exact ⟨h, by rwa [iblk_apply] at e⟩
  · rintro ⟨h, e⟩; exact ⟨h, by rwa [iblk_apply]⟩

/-- The first result: the argument with a column of zeros behind it. -/
theorem wide_apply (i : S16384x201.Idx) :
    ((dats m 0 c).arrAt 1 cfg0.N : Vec Ideal S16384x201 .f32) i = awiden (arg m c) i := by
  obtain ⟨t, q, e⟩ := rowAt_surj (arow i)
  have hi : ((cfg0.win 1).blk t).view.emb (ValueIdx.ix2 q (acol i) : S512x201.Idx) = i :=
    Shape.idx_ext₂
      (congrArg Fin.val ((emb1_row t (ValueIdx.ix2 q (acol i))).trans e : arow (((cfg0.win 1).blk t).view.emb (ValueIdx.ix2 q (acol i))) = arow i))
      (congrArg Fin.val (emb1_col t (ValueIdx.ix2 q (acol i))))
  have hb := congrFun (Value.blocks1 m c t (flush0_1 t)) (ValueIdx.ix2 q (acol i) : S512x201.Idx)
  rw [Value.flushed1_A, out1_eq] at hb
  have hl : ((dats m 0 c).arrAt 1 cfg0.N : Vec Ideal S16384x201 .f32)
        (((cfg0.win 1).blk t).view.emb (ValueIdx.ix2 q (acol i) : S512x201.Idx))
      = widen (iblk m c 0 t) (ValueIdx.ix2 q (acol i)) := hb
  rw [hi] at hl
  rw [hl]
  unfold widen awiden
  rw [← e]
  by_cases h : (acol i).val < 200
  · rw [dif_pos h]
    exact (dif_pos h).trans (iblk_apply m c t q _)
  · rw [dif_neg h]
    exact dif_neg h

/-- The second result: each row's length and one. -/
theorem len_apply (r : Fin 16384) :
    ∃ l : BitVec 32, IsLen 200 (AOcc (arg m c) r) l
      ∧ ((dats m 0 c).arrAt 2 cfg0.N : IVec S16384 32) (aat1 r) = l + 1#32 := by
  obtain ⟨t, q, rfl⟩ := rowAt_surj r
  obtain ⟨l, hl, hp⟩ := lenPay_apply (iblk m c 0 t) q
  refine ⟨l, hl.congr fun k _ => bocc_iff m c t q k, ?_⟩
  have hb := congrFun (Value.blocks2 m c t (flush0_2 t)) (bat1 q)
  rw [Value.flushed2_A, out2_eq] at hb
  have hr : ((dats m 0 c).arrAt 2 cfg0.N : IVec S16384 32) (((cfg0.win 2).blk t).view.emb (bat1 q))
      = k0_pay2 (F := Ideal) (iblk m c 0 t) (bat1 q) := hb
  rw [emb2] at hr
  rw [hr, hp]

end Cert.Proof.Krn

end
-- ==== Proof.RefRun.lean ====
/- The reference program's run. Its host program is a straight line of array operations (two small local functions
   written out at their call), so every buffer ends at the fold of those operations over what it held at the launch.
   The two results are then named as plain functions of the one argument array. -/
module

public import proofs.«01_k».proof.Defs
public import proofs.«01_k».proof.Proof.Gen.ReferenceIdeal
public import Idealize.ShloMosaic.Adequacy
public import Idealize.ShloMosaic.Init
public import Idealize.ShloMosaic.Lib.Quiescent
public import Idealize.ShloMosaic.Lib.StableHlo.Run

@[expose] public section

noncomputable section

open Idealize.ShloMosaic Idealize.ShloMosaic.TcCoe Idealize.ShloMosaic.StableHlo Idealize.SL.Sem

namespace Cert.Proof.Ref

open Cert.ReferenceIdeal Cert.ReferenceIdeal.Gen

variable {F : FTy → Type} [FloatOps F]

/-! ## The results as functions of the argument -/

/-- Where the argument is not zero. -/
def mask (x : Vec F S16384x200 .f32) : IVec S16384x200 1 :=
  cmpf .une x (broadcastInDim S16384x200 ![] bcast_S_S16384x200 (constant S_ .f32 0x00000000#32))

/-- Per row, the maximum of the reversed mask and the first place that holds it. -/
def firstPair (x : Vec F S16384x200 .f32) (j : S16384.Idx) : BitVec 1 × BitVec 32 :=
  Host.reduce2 reducer_argmax_i1_i32 (Host.reverse [1] (mask x)) (iotaInDim S16384x200 32 1) (constantI S_ 1 0#1)
    (constantI S_ 32 0#32) reducesTo_S16384x200_S16384_d1 h_S_ j

/-- Per row, that place. -/
def firstIdx (x : Vec F S16384x200 .f32) : IVec S16384 32 := fun j => (firstPair x j).2

/-- Per row, whether any element is not zero. -/
def anyTrue (x : Vec F S16384x200 .f32) : IVec S16384 1 :=
  Host.reduce IntOp.ori (mask x) (constantI S_ 1 0#1) reducesTo_S16384x200_S16384_d1 h_S_

/-- Per row, one more than the place of the last element that is not zero; zero for an empty row. -/
def rowLen (x : Vec F S16384x200 .f32) : IVec S16384 32 :=
  select (anyTrue x) (subi (broadcastInDim S16384 ![] bcast_S_S16384 (constantI S_ 32 200#32)) (firstIdx x))
    (broadcastInDim S16384 ![] bcast_S_S16384 (constantI S_ 32 0#32))

/-- The second result: the row lengths with the added column counted. -/
def lengths (x : Vec F S16384x200 .f32) : IVec S16384 32 :=
  addi (rowLen x) (broadcastInDim S16384 ![] bcast_S_S16384 (constantI S_ 32 1#32))

/-- An array with one more column behind it. -/
def joined (a : Vec F S16384x200 .f32) (b : Vec F S16384x1 .f32) : Vec F S16384x201 .f32 :=
  concatenate S16384x201 1 [⟨S16384x200, a⟩, ⟨S16384x1, b⟩] concatenates_S16384x200_S16384x1_S16384x201_d1

/-- The argument with a column of zeros behind it. -/
def extended (x : Vec F S16384x200 .f32) : Vec F S16384x201 .f32 :=
  joined x (broadcastInDim S16384x1 ![] bcast_S_S16384x1 (constant (F := F) S_ .f32 0x00000000#32))

/-- Where an element lies inside its row's length. -/
def inRow (x : Vec F S16384x200 .f32) : IVec S16384x201 1 :=
  cmpi .slt
    (broadcastInDim S16384x201 ![0, 1] bcast_S1x201_S16384x201_0_1
      (broadcastInDim S1x201 ![1] bcast_S201_S1x201_1 (iotaInDim S201 32 0)))
    (broadcastInDim S16384x201 ![0, 1] bcast_S16384x1_S16384x201_0_1
      (broadcastInDim S16384x1 ![0] bcast_S16384_S16384x1_0 (lengths x)))

/-- The first result: the extended argument inside each row's length, zero past it. -/
def dense (x : Vec F S16384x200 .f32) : Vec F S16384x201 .f32 :=
  select (inRow x) (extended x) (broadcastInDim S16384x201 ![] bcast_S_S16384x201 (constant (F := F) S_ .f32 0x00000000#32))

/-! ## The program as a list of operations -/

/-- The host program's operations, in order. -/
abbrev ops : List (HloOp τ sig (Elt F)) :=
  [ nullary main_cst (constant S_ .f32 0x00000000#32),
    unary main_cst main_v0 (broadcastInDim S16384x200 ![] bcast_S_S16384x200),
    binary main_arg0 main_v0 main_v1 (cmpf .une),
    unary main_v1 main_v2 (Host.reverse [1]),
    TRef.nullary main_call0.v0 (iotaInDim S16384x200 32 1),
    TRef.nullary main_call0.c (constantI S_ 1 0#1),
    TRef.nullary main_call0.c_0 (constantI S_ 32 0#32),
    TRef.quaternary (.of main_v2) main_call0.v0 main_call0.c main_call0.c_0 main_call0.v1_0
      (fun x y u v j => (Host.reduce2 reducer_argmax_i1_i32 x y u v reducesTo_S16384x200_S16384_d1 h_S_ j).1),
    TRef.quaternary (.of main_v2) main_call0.v0 main_call0.c main_call0.c_0 main_call0.v1_1
      (fun x y u v j => (Host.reduce2 reducer_argmax_i1_i32 x y u v reducesTo_S16384x200_S16384_d1 h_S_ j).2),
    nullary main_c (constantI S_ 1 0#1),
    binary main_v1 main_c main_v4 (fun x v => Host.reduce IntOp.ori x v reducesTo_S16384x200_S16384_d1 h_S_),
    nullary main_c_0 (constantI S_ 32 200#32),
    unary main_c_0 main_v5 (broadcastInDim S16384 ![] bcast_S_S16384),
    binary main_v5 main_v3 main_v6 subi,
    nullary main_c_1 (constantI S_ 32 0#32),
    TRef.unary (.of main_c_1 : TRef sig ⟨S_, .i32⟩) main_call1.v0 id,
    TRef.unary main_call1.v0 main_call1.v1 (broadcastInDim S16384 ![] bcast_S_S16384),
    TRef.ternary (.of main_v4) (.of main_v6) main_call1.v1 main_call1.v2 select,
    nullary main_cst_2 (constant S_ .f32 0x00000000#32),
    unary main_cst_2 main_v8 (broadcastInDim S16384x1 ![] bcast_S_S16384x1),
    binary main_arg0 main_v8 main_v9 joined,
    nullary main_v10 (iotaInDim S201 32 0),
    unary main_v10 main_v11 (broadcastInDim S1x201 ![1] bcast_S201_S1x201_1),
    nullary main_c_3 (constantI S_ 32 1#32),
    unary main_c_3 main_v12 (broadcastInDim S16384 ![] bcast_S_S16384),
    binary main_v7 main_v12 main_v13 addi,
    unary main_v13 main_v14 (broadcastInDim S16384x1 ![0] bcast_S16384_S16384x1_0),
    unary main_v11 main_v15 (broadcastInDim S16384x201 ![0, 1] bcast_S1x201_S16384x201_0_1),
    unary main_v14 main_v16 (broadcastInDim S16384x201 ![0, 1] bcast_S16384x1_S16384x201_0_1),
    binary main_v15 main_v16 main_v17 (cmpi .slt),
    nullary main_cst_4 (constant S_ .f32 0x00000000#32),
    TRef.unary (.of main_cst_4 : TRef sig ⟨S_, .f32⟩) main_call2.v0 (broadcastInDim S16384x201 ![] bcast_S_S16384x201),
    TRef.ternary (.of main_v17) (.of main_v9) main_call2.v0 main_call2.v1 select,
    nullary main_c_5 (constantI S_ 32 1#32),
    unary main_c_5 main_v19 (broadcastInDim S16384 ![] bcast_S_S16384),
    binary main_v7 main_v19 main_v20 addi ]

theorem main_eq (c : Dev nD) : main (F := F) c = seq ops := by
  simp only [main, fn_argmax.body, fn_where.body, fn_where_0.body, seq, bind_assoc, pure_bind]
  rfl

theorem dense_eq (V : Valuation τ sig (Elt F)) :
    after ops V (main_v18 : DevRef τ sig) = dense (V (main_arg0 : DevRef τ sig)) := by
  after_results_simp
  simp -implicitDefEqProofs only [TRef.toBuf, TRef.ofBuf, cast_cast, cast_eq]
  rfl

theorem lengths_eq (V : Valuation τ sig (Elt F)) :
    after ops V (main_v20 : DevRef τ sig) = lengths (V (main_arg0 : DevRef τ sig)) := by
  after_results_simp
  simp -implicitDefEqProofs only [TRef.toBuf, TRef.ofBuf, cast_cast, cast_eq]
  rfl

theorem arg0_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub ..,
    nullary_bufs_sub .., nullary_bufs_sub .., nullary_bufs_sub .., quaternary_bufs_sub .., quaternary_bufs_sub ..,
    nullary_bufs_sub .., binary_bufs_sub .., nullary_bufs_sub .., unary_bufs_sub .., binary_bufs_sub ..,
    nullary_bufs_sub .., unary_bufs_sub .., unary_bufs_sub .., ternary_bufs_sub ..,
    nullary_bufs_sub .., unary_bufs_sub .., binary_bufs_sub .., nullary_bufs_sub .., unary_bufs_sub ..,
    nullary_bufs_sub .., unary_bufs_sub .., binary_bufs_sub .., unary_bufs_sub .., unary_bufs_sub .., unary_bufs_sub ..,
    binary_bufs_sub .., nullary_bufs_sub .., unary_bufs_sub .., ternary_bufs_sub ..,
    nullary_bufs_sub .., unary_bufs_sub .., binary_bufs_sub ..⟩

/-! ## The run -/

/-- Every weakly fair execution ends, with every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run, read at the two results and the argument. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = dense (m ((c.tc : Thread nD τ).loc main_arg0))
      ∧ r.2.mem ((c.tc : Thread nD τ).loc main_v20) = lengths (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (dense_eq _), (h c main_v20).trans (lengths_eq _),
    (h c main_arg0).trans (arg0_eq _)⟩) (run_main m ρ)

end Cert.Proof.Ref

end
-- ==== Proof.ArgMax.lean ====
/- The reference finds a row's last occupied place by an arg-max over the reversed row. This module is about the arg-max alone:
   what one step keeps, what the whole fold keeps, and that 200 less its place is the row's length. -/
module

public import proofs.«01_k».proof.Proof.Gen.ReferenceIdeal
public import proofs.«01_k».proof.Proof.Length

@[expose] public section

namespace Cert.Proof.Ref

open Idealize.ShloMosaic Cert.ReferenceIdeal

/-- A one-bit word is 0 or 1. -/
theorem bit_cases (b : BitVec 1) : b = 0#1 ∨ b = 1#1 := by revert b; decide

/-- The order in which the arg-max picks: greater value first, then smaller place. -/
def Below (p q : BitVec 1 × BitVec 32) : Prop := (p.1 = 0#1 ∧ q.1 = 1#1) ∨ (p.1 = q.1 ∧ q.2.toInt ≤ p.2.toInt)

theorem Below.refl (p : BitVec 1 × BitVec 32) : Below p p := .inr ⟨rfl, le_refl _⟩

theorem Below.trans {p q r : BitVec 1 × BitVec 32} (h : Below p q) (h' : Below q r) : Below p r := by
  rcases h with ⟨h1, h2⟩ | ⟨h1, h2⟩ <;> rcases h' with ⟨h1', h2'⟩ | ⟨h1', h2'⟩
  · rw [h2] at h1'; exact absurd h1' (by decide)
  · exact .inl ⟨h1, h1'.symm.trans h2⟩
  · exact .inl ⟨h1.trans h1', h2'⟩
  · exact .inr ⟨h1.trans h1', h2'.trans h2⟩

/-- One step of the arg-max keeps one of its two pairs, and both are below what it keeps. -/
theorem reducer_spec (a b : BitVec 1 × BitVec 32) :
    (reducer_argmax_i1_i32 a b = a ∨ reducer_argmax_i1_i32 a b = b)
      ∧ Below a (reducer_argmax_i1_i32 a b) ∧ Below b (reducer_argmax_i1_i32 a b) := by
  obtain ⟨a1, a2⟩ := a
  obtain ⟨b1, b2⟩ := b
  by_cases hlt : a2.toInt < b2.toInt
  · have hs : a2.slt b2 = true := BitVec.slt_iff_toInt_lt.2 hlt
    rcases bit_cases a1 with rfl | rfl <;> rcases bit_cases b1 with rfl | rfl <;>
      simp [reducer_argmax_i1_i32, IntOp.cmpi, IntOp.ori, IntOp.andi, Scalar.select, Below, hs] <;> omega
  · have hs : a2.slt b2 = false := by
      rw [Bool.eq_false_iff]; exact fun c => hlt (BitVec.slt_iff_toInt_lt.1 c)
    rcases bit_cases a1 with rfl | rfl <;> rcases bit_cases b1 with rfl | rfl <;>
      simp [reducer_argmax_i1_i32, IntOp.cmpi, IntOp.ori, IntOp.andi, Scalar.select, Below, hs] <;> omega

/-- So the whole arg-max keeps the initial pair or one of the list's, and every one of them is below it. -/
theorem argmax_spec (L : List (BitVec 1 × BitVec 32)) : ∀ a : BitVec 1 × BitVec 32,
    (L.foldl reducer_argmax_i1_i32 a = a ∨ L.foldl reducer_argmax_i1_i32 a ∈ L)
      ∧ Below a (L.foldl reducer_argmax_i1_i32 a) ∧ ∀ p ∈ L, Below p (L.foldl reducer_argmax_i1_i32 a) := by
  induction L with
  | nil => intro a; exact ⟨.inl rfl, .refl _, fun p hp => absurd hp List.not_mem_nil⟩
  | cons b L ih =>
    intro a
    obtain ⟨h1, h2, h3⟩ := ih (reducer_argmax_i1_i32 a b)
    obtain ⟨s1, s2, s3⟩ := reducer_spec a b
    rw [List.foldl_cons]
    refine ⟨?_, s2.trans h2, fun p hp => ?_⟩
    · rcases h1 with h1 | h1
      · rw [h1]; exact s1.imp_right fun e => by rw [e]; exact List.mem_cons_self
      · exact .inr (List.mem_cons_of_mem _ h1)
    · rcases List.mem_cons.1 hp with rfl | hp
      · exact s3.trans h2
      · exact h3 p hp

/-- A fold by `or` from 0 is 1 exactly when one of the bits is. -/
theorem fold_ori {ι : Type} (S : Finset ι) (f : ι → BitVec 1) :
    S.fold IntOp.ori 0#1 f = 1#1 ↔ ∃ i ∈ S, f i = 1#1 := by
  induction S using Finset.cons_induction with
  | empty => simp
  | cons a S ha ih =>
    have hor : ∀ u v : BitVec 1, IntOp.ori u v = 1#1 ↔ u = 1#1 ∨ v = 1#1 := by decide
    rw [Finset.fold_cons, hor, ih]
    simp

/-- Over the pairs of a reversed row of 200 places (bit of place `199 - k`, with `k`) the arg-max's place, taken from 200, is
    the row's length, if the row holds an occupied place. -/
theorem isLen_argmax (b : ℕ → BitVec 1) (L : List (BitVec 1 × BitVec 32))
    (hL : ∀ p, p ∈ L ↔ ∃ k < 200, p = (b (199 - k), BitVec.ofNat 32 k)) (hany : ∃ k < 200, b k = 1#1) :
    IsLen 200 (fun k => b k = 1#1) (200#32 - (L.foldl reducer_argmax_i1_i32 (0#1, 0#32)).2) := by
  obtain ⟨h1, -, h3⟩ := argmax_spec L (0#1, 0#32)
  generalize L.foldl reducer_argmax_i1_i32 (0#1, 0#32) = res at h1 h3 ⊢
  -- an occupied place puts its pair into the list, so the arg-max found a 1
  have hocc : ∀ k < 200, b k = 1#1 → res.1 = 1#1 ∧ res.2.toInt ≤ (199 - k : ℕ) := by
    intro k hk hb
    have hm := h3 (1#1, BitVec.ofNat 32 (199 - k)) ((hL _).2 ⟨199 - k, by omega, by
      rw [show 199 - (199 - k) = k by omega, hb]⟩)
    rcases hm with ⟨hm, -⟩ | ⟨hm, hm'⟩
    · exact absurd (show (1#1 : BitVec 1) = 0#1 from hm) (by decide)
    · rw [toInt_ofNat_small (by omega)] at hm'
      exact ⟨hm.symm, hm'⟩
  obtain ⟨k0, hk0, hb0⟩ := hany
  have hres := (hocc k0 hk0 hb0).1
  rcases h1 with h1 | h1
  · rw [h1] at hres; exact absurd (show (0#1 : BitVec 1) = 1#1 from hres) (by decide)
  obtain ⟨k, hkl, hk⟩ := (hL _).1 h1
  have hk1 : b (199 - k) = 1#1 := by rw [← hres, hk]
  have hk2 : res.2 = BitVec.ofNat 32 k := by rw [hk]
  have hl : (200#32 - res.2).toNat = 200 - k := by
    rw [hk2, BitVec.toNat_sub, BitVec.toNat_ofNat, BitVec.toNat_ofNat]; omega
  refine ⟨fun k' hk' hp => ?_, .inr ⟨199 - k, by omega, hk1, by omega⟩⟩
  have h := (hocc k' hk' hp).2
  rw [hk2, toInt_ofNat_small (by omega)] at h
  omega

end Cert.Proof.Ref
-- ==== Proof.RefLength.lean ====
/- The reference's row lengths, on extended reals: the words `IsLen` names. The two row-wise reductions are read as a fold over
   the row's places. -/
module

public import proofs.«01_k».proof.Proof.RefRun
public import proofs.«01_k».proof.Proof.ArgMax
public import Idealize.ShloMosaic.PureOps.Ideal.Laws
public import Idealize.ShloMosaic.Lib.Pipeline.Value
public import Idealize.ShloMosaic.Lib.Pointwise.ShapeOpsCore
public import Idealize.ShloMosaic.Lib.ValueIdx

@[expose] public section

noncomputable section

open Idealize.ShloMosaic Idealize.ShloMosaic.TcCoe Idealize.ShloMosaic.StableHlo Idealize.SL.Sem

namespace Cert.Proof.Ref

open Cert.ReferenceIdeal Cert.ReferenceIdeal.Gen

/-- The index of row `r`, column `k`. -/
def at2 (r : Fin 16384) (k : Fin 200) : S16384x200.Idx := ValueIdx.ix2 r k

/-- A row as an index, and the row and the column of an index. -/
def at1 (r : Fin 16384) : S16384.Idx := ValueIdx.ix1 r
def rowOf (i : S16384x200.Idx) : Fin 16384 := i 0
def colOf (i : S16384x200.Idx) : Fin 200 := i 1

theorem at2_rowOf (i : S16384x200.Idx) : at2 (rowOf i) (colOf i) = i := Shape.idx_ext₂ rfl rfl

/-- The bit of the mask at place `k` of row `r`; 0 past the row. -/
def bit (x : Vec Ideal S16384x200 .f32) (r : Fin 16384) (k : ℕ) : BitVec 1 :=
  if h : k < 200 then mask x (at2 r ⟨k, h⟩) else 0#1

theorem bit_val (x : Vec Ideal S16384x200 .f32) (r : Fin 16384) (k : Fin 200) : bit x r k.val = mask x (at2 r k) :=
  dif_pos k.isLt

/-- The mask says which elements are not zero. -/
theorem mask_eq_one (x : Vec Ideal S16384x200 .f32) (i : S16384x200.Idx) : mask x i = 1#1 ↔ x i ≠ (0 : EReal) := by
  show Idealize.ShloMosaic.Ideal.cmp .une (x i) (Idealize.ShloMosaic.Ideal.ofBits .f32 0x00000000#32) = 1#1 ↔ _
  rw [Idealize.ShloMosaic.Ideal.ofBits_zero_f32]
  unfold Idealize.ShloMosaic.Ideal.cmp
  by_cases h : x i = (0 : EReal) <;> simp [h]

/-- Place `k` of row `r` of the argument is not zero. -/
def Occ (x : Vec Ideal S16384x200 .f32) (r : Fin 16384) (k : ℕ) : Prop := ∃ h : k < 200, x (at2 r ⟨k, h⟩) ≠ (0 : EReal)

theorem bit_eq_one (x : Vec Ideal S16384x200 .f32) (r : Fin 16384) (k : ℕ) : bit x r k = 1#1 ↔ Occ x r k := by
  unfold bit Occ
  by_cases h : k < 200
  · rw [dif_pos h, mask_eq_one]; exact ⟨fun e => ⟨h, e⟩, fun ⟨_, e⟩ => e⟩
  · rw [dif_neg h]; exact ⟨fun e => absurd e (by decide), fun ⟨h', _⟩ => absurd h' h⟩

/-! ## Rows -/

/-- An index is in row `r` when its first coordinate is `r`. -/
theorem drop_eq_iff (i : S16384x200.Idx) (r : Fin 16384) :
    reducesTo_S16384x200_S16384_d1.drop i = at1 r ↔ rowOf i = r := by
  have e : (reducesTo_S16384x200_S16384_d1.drop i 0 : ℕ) = (rowOf i : ℕ) :=
    Shape.ReducesTo.drop_apply_val_of_eq _ i 0 0
  constructor
  · intro h; rw [h] at e; exact Fin.ext e.symm
  · rintro rfl
    funext a
    obtain rfl : a = 0 := Subsingleton.elim (α := Fin 1) _ _
    exact Fin.ext e

/-- `any` says whether the row holds an occupied place. -/
theorem anyTrue_eq_one (x : Vec Ideal S16384x200 .f32) (r : Fin 16384) :
    anyTrue x (at1 r) = 1#1 ↔ ∃ k < 200, bit x r k = 1#1 := by
  unfold anyTrue
  rw [Host.reduce_eq_fold]
  refine (fold_ori _ _).trans ⟨?_, ?_⟩
  · rintro ⟨i, hi, hm⟩
    obtain rfl := (drop_eq_iff i r).1 (Finset.mem_filter.1 hi).2
    refine ⟨(colOf i).val, (colOf i).isLt, ?_⟩
    rw [bit_val, at2_rowOf]
    exact hm
  · rintro ⟨k, hk, hx⟩
    refine ⟨at2 r ⟨k, hk⟩, Finset.mem_filter.2 ⟨Finset.mem_univ _, (drop_eq_iff _ r).2 rfl⟩, ?_⟩
    rw [← bit_val]; exact hx

/-- The reversed mask at an index is the row's bit at the mirrored place. -/
theorem reverse_apply (x : Vec Ideal S16384x200 .f32) (i : S16384x200.Idx) :
    Host.reverse [1] (mask x) i = bit x (rowOf i) (199 - (colOf i).val) := by
  have e : 199 - (colOf i).val = (colOf i).rev.val := by rw [Fin.val_rev]; omega
  rw [e, bit_val, Host.reverse_apply]
  exact congrArg (mask x) (Shape.idx_ext₂ rfl rfl)

/-- The pairs the arg-max of row `r` runs over. -/
theorem mem_fiber (x : Vec Ideal S16384x200 .f32) (r : Fin 16384) (p : BitVec 1 × BitVec 32) :
    p ∈ Host.argReduceFiber (Host.reverse [1] (mask x)) (iotaInDim S16384x200 32 1) reducesTo_S16384x200_S16384_d1 (at1 r)
      ↔ ∃ k < 200, p = (bit x r (199 - k), BitVec.ofNat 32 k) := by
  have hy : ∀ i : S16384x200.Idx, iotaInDim S16384x200 32 1 i = BitVec.ofNat 32 (colOf i).val := fun _ => rfl
  unfold Host.argReduceFiber
  rw [List.mem_map]
  constructor
  · rintro ⟨n, hn, rfl⟩
    have hd := of_decide_eq_true (List.mem_filter.1 hn).2
    generalize S16384x200.rowMajor.symm n = i at hd ⊢
    obtain rfl := (drop_eq_iff i r).1 hd
    exact ⟨(colOf i).val, (colOf i).isLt, by rw [reverse_apply, hy]⟩
  · rintro ⟨k, hk, rfl⟩
    refine ⟨S16384x200.rowMajor (at2 r ⟨k, hk⟩), List.mem_filter.2 ⟨List.mem_finRange _, ?_⟩, ?_⟩
    · rw [Equiv.symm_apply_apply]; exact decide_eq_true ((drop_eq_iff _ r).2 rfl)
    · rw [Equiv.symm_apply_apply, reverse_apply, hy]; rfl

/-! ## The length -/

/-- The arg-max's pair, as the fold over those pairs. -/
theorem firstPair_eq (x : Vec Ideal S16384x200 .f32) (j : S16384.Idx) :
    firstPair x j = (Host.argReduceFiber (Host.reverse [1] (mask x)) (iotaInDim S16384x200 32 1)
      reducesTo_S16384x200_S16384_d1 j).foldl reducer_argmax_i1_i32 (0#1, 0#32) :=
  Host.reduce2_eq_foldl_fiber _ _ _ _ _ _ _ _

theorem firstIdx_eq (x : Vec Ideal S16384x200 .f32) (j : S16384.Idx) : firstIdx x j = (firstPair x j).2 :=
  congrFun (show firstIdx x = fun j => (firstPair x j).2 from rfl) j

/-- The length at a row, its two cases apart. -/
theorem rowLen_apply (x : Vec Ideal S16384x200 .f32) (j : S16384.Idx) :
    rowLen x j = if anyTrue x j = 1#1 then 200#32 - firstIdx x j else 0#32 := by
  unfold rowLen
  rw [ValueIdx.select_apply]
  rfl

/-- THE ROW LENGTHS. -/
theorem isLen_rowLen (x : Vec Ideal S16384x200 .f32) (r : Fin 16384) : IsLen 200 (Occ x r) (rowLen x (at1 r)) := by
  rw [rowLen_apply]
  refine IsLen.congr (P := fun k => bit x r k = 1#1) ?_ fun k _ => bit_eq_one x r k
  split
  · next hany =>
    rw [firstIdx_eq, firstPair_eq]
    exact isLen_argmax (bit x r) _ (mem_fiber x r) ((anyTrue_eq_one x r).1 hany)
  · next hany => exact ⟨fun k hk hp => absurd ((anyTrue_eq_one x r).2 ⟨k, hk, hp⟩) hany, .inl rfl⟩

/-- The second result is the length and one. -/
theorem lengths_apply (x : Vec Ideal S16384x200 .f32) (j : S16384.Idx) : lengths x j = rowLen x j + 1#32 := rfl

end Cert.Proof.Ref

end
-- ==== Proof.RefDense.lean ====
/- The reference's first result, element by element, on extended reals: the argument with a column of zeros behind it. What
   the last `where` cuts away is zero already. -/
module

public import proofs.«01_k».proof.Proof.RefLength

@[expose] public section

noncomputable section

open Idealize.ShloMosaic Idealize.ShloMosaic.TcCoe Idealize.ShloMosaic.StableHlo Idealize.SL.Sem

namespace Cert.Proof.Ref

open Cert.ReferenceIdeal Cert.ReferenceIdeal.Gen

/-- The row and the column of an index of the wider array. -/
def wideRow (i : S16384x201.Idx) : Fin 16384 := i 0
def wideCol (i : S16384x201.Idx) : Fin 201 := i 1

/-- The extended argument inside the argument's columns. -/
theorem extended_of_lt (x : Vec Ideal S16384x200 .f32) (i : S16384x201.Idx) (h : (wideCol i).val < 200) :
    extended x i = x (at2 (wideRow i) ⟨(wideCol i).val, h⟩) := by
  unfold extended joined
  refine concatenate_pair_apply_left (s₁ := S16384x200) (s₂ := S16384x1) (t := S16384x201) (1 : Fin 2) x _ _ i rfl
    (at2 (wideRow i) ⟨(wideCol i).val, h⟩) fun b => ?_
  match b with
  | ⟨0, _⟩ => rfl
  | ⟨1, _⟩ => rfl

/-- The extended argument in the added column. -/
theorem extended_of_ge (x : Vec Ideal S16384x200 .f32) (i : S16384x201.Idx) (h : ¬ (wideCol i).val < 200) :
    extended x i = (0 : EReal) := by
  have hi := (wideCol i).isLt
  let z : S16384x1.Idx := ValueIdx.ix2 (wideRow i) (0 : Fin 1)
  unfold extended joined
  refine (concatenate_pair_apply_right (s₁ := S16384x200) (s₂ := S16384x1) (t := S16384x201) (1 : Fin 2) x _ _ i rfl rfl z
    (fun b hb => ?_) ?_).trans ?_
  · match b with
    | ⟨0, _⟩ => rfl
    | ⟨1, _⟩ => exact absurd rfl hb
  · show 0 + 200 = (wideCol i).val
    omega
  · exact Idealize.ShloMosaic.Ideal.ofBits_zero_f32

/-- The row length and one, spread over the wider array's columns. -/
theorem bound_apply (x : Vec Ideal S16384x200 .f32) (i : S16384x201.Idx) :
    broadcastInDim S16384x201 ![0, 1] bcast_S16384x1_S16384x201_0_1
      (broadcastInDim S16384x1 ![0] bcast_S16384_S16384x1_0 (lengths x)) i = lengths x (at1 (wideRow i)) := by
  let z : S16384x1.Idx := ValueIdx.ix2 (wideRow i) (0 : Fin 1)
  refine (broadcastInDim_apply (s := S16384x1) (t := S16384x201) ![0, 1] _ _ i z fun a => ?_).trans ?_
  · match a with
    | ⟨0, _⟩ => rfl
    | ⟨1, _⟩ => rfl
  · refine broadcastInDim_apply (s := S16384) (t := S16384x1) ![0] _ _ z (at1 (wideRow i)) fun a => ?_
    obtain rfl : a = 0 := Subsingleton.elim (α := Fin 1) _ _
    rfl

/-- The column numbers, spread over the wider array's rows. -/
theorem column_apply (i : S16384x201.Idx) :
    broadcastInDim S16384x201 ![0, 1] bcast_S1x201_S16384x201_0_1
      (broadcastInDim S1x201 ![1] bcast_S201_S1x201_1 (iotaInDim S201 32 0)) i = BitVec.ofNat 32 (wideCol i).val := by
  let z : S1x201.Idx := ValueIdx.ix2 (0 : Fin 1) (wideCol i)
  let y : S201.Idx := ValueIdx.ix1 (wideCol i)
  refine (broadcastInDim_apply (s := S1x201) (t := S16384x201) ![0, 1] _ _ i z fun a => ?_).trans ?_
  · match a with
    | ⟨0, _⟩ => rfl
    | ⟨1, _⟩ => rfl
  · refine (broadcastInDim_apply (s := S201) (t := S1x201) ![1] _ _ z y fun a => ?_).trans rfl
    obtain rfl : a = 0 := Subsingleton.elim (α := Fin 1) _ _
    rfl

/-- Whether the cut keeps an element: its column is below the row's length, the added column counted. -/
theorem inRow_eq_one (x : Vec Ideal S16384x200 .f32) (i : S16384x201.Idx) :
    inRow x i = 1#1 ↔ (wideCol i).val < (rowLen x (at1 (wideRow i))).toNat + 1 := by
  have hi := (wideCol i).isLt
  have hle := (isLen_rowLen x (wideRow i)).le
  have hin : inRow x i = IntOp.cmpi .slt (BitVec.ofNat 32 (wideCol i).val) (lengths x (at1 (wideRow i))) := by
    rw [← bound_apply, ← column_apply]; rfl
  rw [hin, lengths_apply]
  generalize rowLen x (at1 (wideRow i)) = l at hle ⊢
  have hl : (l + 1#32).toNat = l.toNat + 1 := by
    rw [BitVec.toNat_add, BitVec.toNat_ofNat]; omega
  have hl' : (l + 1#32).toInt = (l.toNat + 1 : ℕ) := by
    rw [BitVec.toInt_eq_toNat_of_lt (by omega), hl]
  have hb : ∀ b : Bool, BitVec.ofBool b = 1#1 ↔ b = true := by decide
  unfold IntOp.cmpi
  rw [hb]
  show BitVec.slt _ _ = true ↔ _
  rw [BitVec.slt_iff_toInt_lt, toInt_ofNat_small (by omega), hl']
  omega

/-- THE DENSE RESULT: the argument with a column of zeros; the cut takes away zeros only. -/
theorem dense_apply (x : Vec Ideal S16384x200 .f32) (i : S16384x201.Idx) :
    dense x i = if h : (wideCol i).val < 200 then x (at2 (wideRow i) ⟨(wideCol i).val, h⟩) else (0 : EReal) := by
  have hz : broadcastInDim S16384x201 ![] bcast_S_S16384x201 (constant (F := Ideal) S_ .f32 0x00000000#32) i = (0 : EReal) :=
    Idealize.ShloMosaic.Ideal.ofBits_zero_f32
  have hsel : dense x i = if inRow x i = 1#1 then extended x i else (0 : EReal) := by
    unfold dense
    rw [ValueIdx.select_apply, hz]
    rfl
  rw [hsel]
  by_cases h : (wideCol i).val < 200
  · rw [dif_pos h]
    by_cases hin : inRow x i = 1#1
    · rw [if_pos hin, extended_of_lt x i h]
    · rw [if_neg hin]
      by_contra hx
      refine (isLen_rowLen x (wideRow i)).not_of_le h ?_ ⟨h, fun e => hx e.symm⟩
      have := mt (inRow_eq_one x i).2 hin
      omega
  · rw [dif_neg h, extended_of_ge x i h, ite_self]

end Cert.Proof.Ref

end
-- ==== Proof.Equation.lean ====
/- The kernel's two results are the reference's, on extended reals. -/
module

public import proofs.«01_k».proof.Proof.KernelArrays
public import proofs.«01_k».proof.Proof.RefDense
public import proofs.«01_k».proof.Proof.RefLength

@[expose] public section

noncomputable section

open Idealize.ShloMosaic Idealize.ShloMosaic.TcCoe Idealize.SL.Sem

namespace Cert.Proof

/-- Widening the argument by a column of zeros is what the reference writes as its first result. -/
theorem wide_eq (x : Vec Ideal KernelIdeal.S16384x200 .f32) (i : KernelIdeal.S16384x201.Idx) :
    Krn.awiden x i = Ref.dense (F := Ideal) x i :=
  (Ref.dense_apply x i).symm

/-- A row has one length, so any length of the row and one is what the reference writes as its second result. -/
theorem len_eq (x : Vec Ideal KernelIdeal.S16384x200 .f32) (r : Fin 16384) (l : BitVec 32) (h : IsLen 200 (Krn.AOcc x r) l) :
    l + 1#32 = Ref.lengths (F := Ideal) x (Ref.at1 r) := by
  rw [Ref.lengths_apply]
  exact congrArg (· + 1#32) (IsLen.unique h (Ref.isLen_rowLen x r))

variable (m : (ℓ : Loc KernelIdeal.nD KernelIdeal.τ KernelIdeal.sig) → Buf (Elt Ideal) ℓ) (c : Dev KernelIdeal.nD)

/-- The first result array. -/
theorem first_eq : ((KernelIdeal.Gen.dats m 0 c).arrAt 1 KernelIdeal.cfg0.N : Vec Ideal KernelIdeal.S16384x201 .f32)
    = Ref.dense (F := Ideal) (Krn.arg m c) :=
  funext fun i => (Krn.wide_apply m c i).trans (wide_eq _ i)

/-- The second result array. -/
theorem second_eq : ((KernelIdeal.Gen.dats m 0 c).arrAt 2 KernelIdeal.cfg0.N : IVec KernelIdeal.S16384 32)
    = Ref.lengths (F := Ideal) (Krn.arg m c) := by
  funext j
  have hj : Krn.aat1 (Krn.lrow j) = j := by
    funext a
    obtain rfl : a = 0 := Subsingleton.elim (α := Fin 1) _ _
    rfl
  obtain ⟨l, hl, e⟩ := Krn.len_apply m c (Krn.lrow j)
  rw [hj] at e
  refine e.trans ((len_eq _ _ l hl).trans ?_)
  exact congrArg (Ref.lengths (F := Ideal) (Krn.arg m c)) hj

end Cert.Proof

end
-- ==== Proof.lean ====
/- The certificate: the kernel and its reference run safely, and on extended reals the kernel's two results are the
   reference's, for every argument. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference's frame: its run keeps the argument, and it has no semaphores. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.Proof.Ref.run (F := Ideal) m ρ)

/-- Run from memories that agree on the argument, the kernel and the reference leave the same two results. -/
theorem results_equal : Cert.algebraic_KernelIdeal_ReferenceIdeal := by
  intro m g m' g' _ hagree
  refine ⟨fun c => Ref.dense (F := Ideal) (Krn.arg m c), fun c => Ref.lengths (F := Ideal) (Krn.arg m c), ?_, ?_⟩
  · exact (θ_run Cert.KernelIdeal.defs _ _).mono
      (fun r h c => ⟨(h c).1.trans (first_eq m c), (h c).2.1.trans (second_eq m c), (h c).2.2⟩)
      (Cert.KernelIdeal.Value.run_blocks (F := Ideal) m g)
  · exact (θ_run Cert.ReferenceIdeal.defs _ _).mono
      (fun r h c => ⟨(h c).1.trans (congrArg (Ref.dense (F := Ideal)) (hagree c)),
        (h c).2.1.trans (congrArg (Ref.lengths (F := Ideal)) (hagree c)), (h c).2.2⟩)
      (Cert.Proof.Ref.run (F := Ideal) m' g')

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    results_equal⟩

end Cert.Proof

end
